-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e_over_scale" .f32 0x3B38AA3B#32 (((Real.log 2)⁻¹ * (1 / 512) : ℝ) : EReal)
  ∧ IdealRules.named_const.Statement Cert.KernelIdeal.κ "mass" .f32 0x3F80000A#32 ((819001 / 819000 : ℝ) : EReal)
  ∧ IdealRules.named_const.Statement Cert.KernelIdeal.κ "peak" .f32 0x3F7D708F#32 ((810809 / 819000 : ℝ) : EReal)
  ∧ IdealRules.named_const.Statement Cert.KernelIdeal.κ "eps" .f32 0x35A3E148#32 ((1 / 819000 : ℝ) : EReal)
  ∧ IdealRules.named_const.Statement Cert.KernelIdeal.κ "entropy" .f32 0xC295A1C1#32 ((512 * ((1024 / 102375) * (Real.log ((3734642804542694673304928339684903440360290548300415176063232044682349196517954782034451010203315482100413928177255823637569999967368629893450722931248929438566374350178376781666664444435951520201 / 10000000000000000000000000000000000000000000000000000000000000000000000000000000000000000000000000000000000000000000000000000000000000000000000000000000000000000000000000000000000000000000000000000) * (Real.sqrt ((Real.sqrt ((Real.sqrt ((Real.sqrt ((Real.sqrt ((Real.sqrt ((Real.sqrt ((Real.sqrt ((Real.sqrt ((Real.sqrt ((Real.sqrt ((Real.sqrt ((Real.sqrt (1 * (1 / 819000))) * (11 / 9100000))) * (1 / 819000))) * (11 / 9100000))) * (11 / 9100000))) * (11 / 9100000))) * (1 / 819000))) * (1 / 819000))) * (11 / 9100000))) * (11 / 9100000))) * (11 / 9100000))) * (11 / 9100000))) * (11 / 9100000)))))) : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S2x2048 : Shape := ⟨2, ![2, 2048]⟩
abbrev S768x8192 : Shape := ⟨2, ![768, 8192]⟩
abbrev S8192 : Shape := ⟨1, ![8192]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x8192 : S_.BroadcastsInDim S768x8192 (![] : Fin 0 → Fin S768x8192.rank)
  reducesTo_S768x8192_S_d0_1 : S768x8192.ReducesTo [0, 1] S_
  bcast_S_S2x2048 : S_.BroadcastsInDim S2x2048 (![] : Fin 0 → Fin S2x2048.rank)
  reducesTo_S2x2048_S_d0_1 : S2x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v8 : IVec S_ 1) (main_v16 : IVec S2x2048 1) : IVec S_ 1 :=
  let main_c_5 : IVec S_ 1 := constantI S_ 1 1#1
  let main_v17 : IVec S_ 1 := (fun x v => Host.reduce IntOp.andi x v reducesTo_S2x2048_S_d0_1 h_S_) main_v16 main_c_5
  let main_v18 : IVec S_ 1 := andi main_v8 main_v17
  let main_cst_6 : FVec F S_ .f32 := constant S_ .f32 0x00000000#32
  let main_v19 : FVec F S8192 .f32 := broadcastInDim S8192 ![] bcast_S_S8192 main_cst_6
  let main_v20 : IVec S8192 1 := cmpf .oeq main_arg4 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v18 main_v21
  main_v22

def fn {F : FTy → Type} [FloatOps F] (main_arg0 : FVec F S2x2048x768 .f32) (main_arg1 : IVec S2x2048 32) (main_arg2 : IVec S2x2048 32) (main_arg3 : FVec F S768x8192 .f32) (main_arg4 : FVec F S8192 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x8192 .f32 := Host.absf main_arg3
  let main_cst_0 : FVec F S_ .f32 := constant S_ .f32 0x7F800000#32
  let main_v5 : FVec F S768x8192 .f32 := broadcastInDim S768x8192 ![] bcast_S_S768x8192 main_cst_0
  let main_v6 : IVec S768x8192 1 := cmpf .olt main_v4 main_v5
  let main_c_1 : IVec S_ 1 := constantI S_ 1 1#1
  let main_v7 : IVec S_ 1 := (fun x v => Host.reduce IntOp.andi x v reducesTo_S768x8192_S_d0_1 h_S_) main_v6 main_c_1
  let main_v8 : IVec S_ 1 := andi main_v3 main_v7
  let main_c_2 : IVec S_ 32 := constantI S_ 32 0#32
  let main_v9 : IVec S2x2048 32 := broadcastInDim S2x2048 ![] bcast_S_S2x2048 main_c_2
  let main_v10 : IVec S2x2048 1 := cmpi .eq main_arg2 main_v9
  let main_c_3 : IVec S_ 32 := constantI S_ 32 0#32
  let main_v11 : IVec S2x2048 32 := broadcastInDim S2x2048 ![] bcast_S_S2x2048 main_c_3
  let main_v12 : IVec S2x2048 1 := cmpi .sge main_arg1 main_v11
  let main_c_4 : IVec S_ 32 := constantI S_ 32 8192#32
  let main_v13 : IVec S2x2048 32 := broadcastInDim S2x2048 ![] bcast_S_S2x2048 main_c_4
  let main_v14 : IVec S2x2048 1 := cmpi .slt main_arg1 main_v13
  let main_v15 : IVec S2x2048 1 := andi main_v12 main_v14
  let main_v16 : IVec S2x2048 1 := ori main_v10 main_v15
  fn_part1 (F := F) main_arg4 main_v8 main_v16
-- ==== Kernel.lean ====
abbrev S2x2048x768 : Shape := ⟨3, ![2, 2048, 768]⟩
abbrev S2x2048 : Shape := ⟨2, ![2, 2048]⟩
abbrev S768x8192 : Shape := ⟨2, ![768, 8192]⟩
abbrev S8192 : Shape := ⟨1, ![8192]⟩
abbrev S4096x768 : Shape := ⟨2, ![4096, 768]⟩
abbrev S4096x1 : Shape := ⟨2, ![4096, 1]⟩
abbrev S1x1 : Shape := ⟨2, ![1, 1]⟩
abbrev S512x768 : Shape := ⟨2, ![512, 768]⟩
abbrev S512x1 : Shape := ⟨2, ![512, 1]⟩
abbrev S768x1 : Shape := ⟨2, ![768, 1]⟩
abbrev S768 : Shape := ⟨1, ![768]⟩
abbrev S512x8192 : Shape := ⟨2, ![512, 8192]⟩
abbrev S512 : Shape := ⟨1, ![512]⟩
abbrev S1x768 : Shape := ⟨2, ![1, 768]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 9
  | .smem => 1
  | _ => 0

abbrev bufTy : (tb : Table) → Fin (tcTables nBuf tb) → BufTy
  | .hbm, ⟨0, _⟩ => ⟨S2x2048x768, .f32⟩
  | .hbm, ⟨1, _⟩ => ⟨S2x2048, .i32⟩
  | .hbm, ⟨2, _⟩ => ⟨S2x2048, .i32⟩
  | .hbm, ⟨3, _⟩ => ⟨S768x8192, .f32⟩
  | .hbm, ⟨4, _⟩ => ⟨S8192, .f32⟩
  | .hbm, ⟨5, _⟩ => ⟨S4096x768, .f32⟩
  | .hbm, ⟨6, _⟩ => ⟨S4096x1, .i32⟩
  | .hbm, ⟨7, _⟩ => ⟨S4096x1, .i32⟩
  | .hbm, ⟨8, _⟩ => ⟨S1x1, .f32⟩
  | .hbm, ⟨9, _⟩ => ⟨S_, .f32⟩
  | .local _ .vmem, ⟨0, _⟩ => ⟨S512x768, .f32⟩
  | .local _ .vmem, ⟨1, _⟩ => ⟨S512x768, .f32⟩
  | .local _ .vmem, ⟨2, _⟩ => ⟨S768x8192, .f32⟩
  | .local _ .vmem, ⟨3, _⟩ => ⟨S512x1, .i32⟩
  | .local _ .vmem, ⟨4, _⟩ => ⟨S512x1, .i32⟩
  | .local _ .vmem, ⟨5, _⟩ => ⟨S512x1, .i32⟩
  | .local _ .vmem, ⟨6, _⟩ => ⟨S512x1, .i32⟩
  | .local _ .vmem, ⟨7, _⟩ => ⟨S768x8192, .fp8e4m3⟩
  | .local _ .vmem, ⟨8, _⟩ => ⟨S768x1, .f32⟩
  | .local _ .smem, ⟨0, _⟩ => ⟨S1x1, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "entropy" => some ((512 * ((1024 / 102375) * (Real.log ((3734642804542694673304928339684903440360290548300415176063232044682349196517954782034451010203315482100413928177255823637569999967368629893450722931248929438566374350178376781666664444435951520201 / 10000000000000000000000000000000000000000000000000000000000000000000000000000000000000000000000000000000000000000000000000000000000000000000000000000000000000000000000000000000000000000000000000000) * (Real.sqrt ((Real.sqrt ((Real.sqrt ((Real.sqrt ((Real.sqrt ((Real.sqrt ((Real.sqrt ((Real.sqrt ((Real.sqrt ((Real.sqrt ((Real.sqrt ((Real.sqrt ((Real.sqrt (1 * (1 / 819000))) * (11 / 9100000))) * (1 / 819000))) * (11 / 9100000))) * (11 / 9100000))) * (11 / 9100000))) * (1 / 819000))) * (1 / 819000))) * (11 / 9100000))) * (11 / 9100000))) * (11 / 9100000))) * (11 / 9100000))) * (11 / 9100000)))))) : ℝ) : EReal)
  | "eps" => some ((1 / 819000 : ℝ) : EReal)
  | "log2e_over_scale" => some (((Real.log 2)⁻¹ * (1 / 512) : ℝ) : EReal)
  | "mass" => some ((819001 / 819000 : ℝ) : EReal)
  | "peak" => some ((810809 / 819000 : ℝ) : EReal)
  | _ => none
-- ==== ReferenceIdeal.lean ====
abbrev S2x2048x768 : Shape := ⟨3, ![2, 2048, 768]⟩
abbrev S2x2048 : Shape := ⟨2, ![2, 2048]⟩
abbrev S768x8192 : Shape := ⟨2, ![768, 8192]⟩
abbrev S8192 : Shape := ⟨1, ![8192]⟩
abbrev S_ : Shape := ⟨0, ![]⟩
abbrev S2x2048x8192 : Shape := ⟨3, ![2, 2048, 8192]⟩
abbrev S1x1x8192 : Shape := ⟨3, ![1, 1, 8192]⟩
abbrev S2x2048x1 : Shape := ⟨3, ![2, 2048, 1]⟩
abbrev S4096x8192 : Shape := ⟨2, ![4096, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048, .i32⟩
  | .hbm, ⟨2, _⟩ => ⟨S2x2048, .i32⟩
  | .hbm, ⟨3, _⟩ => ⟨S768x8192, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x2048x8192, .f32⟩
  | .hbm, ⟨11, _⟩ => ⟨S1x1x8192, .f32⟩
  | .hbm, ⟨12, _⟩ => ⟨S2x2048x8192, .f32⟩
  | .hbm, ⟨13, _⟩ => ⟨S2x2048x8192, .f32⟩
  | .hbm, ⟨14, _⟩ => ⟨S_, .f32⟩
  | .hbm, ⟨15, _⟩ => ⟨S2x2048, .f32⟩
  | .hbm, ⟨16, _⟩ => ⟨S_, .f32⟩
  | .hbm, ⟨17, _⟩ => ⟨S2x2048, .f32⟩
  | .hbm, ⟨18, _⟩ => ⟨S2x2048, .f32⟩
  | .hbm, ⟨19, _⟩ => ⟨S2x2048x1, .f32⟩
  | .hbm, ⟨20, _⟩ => ⟨S2x2048x8192, .f32⟩
  | .hbm, ⟨21, _⟩ => ⟨S2x2048x8192, .f32⟩
  | .hbm, ⟨22, _⟩ => ⟨S2x2048x8192, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S2x2048x1, .f32⟩
  | .hbm, ⟨27, _⟩ => ⟨S2x2048x8192, .f32⟩
  | .hbm, ⟨28, _⟩ => ⟨S2x2048x8192, .f32⟩
  | .hbm, ⟨29, _⟩ => ⟨S_, .i32⟩
  | .hbm, ⟨30, _⟩ => ⟨S2x2048, .i32⟩
  | .hbm, ⟨31, _⟩ => ⟨S2x2048, .i1⟩
  | .hbm, ⟨32, _⟩ => ⟨S_, .i32⟩
  | .hbm, ⟨33, _⟩ => ⟨S_, .i32⟩
  | .hbm, ⟨34, _⟩ => ⟨S2x2048, .i32⟩
  | .hbm, ⟨35, _⟩ => ⟨S2x2048, .i32⟩
  | .hbm, ⟨36, _⟩ => ⟨S4096x8192, .f32⟩
  | .hbm, ⟨37, _⟩ => ⟨S4096, .i32⟩
  | .hbm, ⟨38, _⟩ => ⟨S_, .f32⟩
  | .hbm, ⟨39, _⟩ => ⟨S_, .f32⟩
  | .hbm, ⟨40, _⟩ => ⟨S4096x8192, .f32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S4096x1, .i32⟩
  | .hbm, ⟨57, _⟩ => ⟨S4096x1, .i32⟩
  | .hbm, ⟨58, _⟩ => ⟨S4096x2, .i32⟩
  | .hbm, ⟨59, _⟩ => ⟨S4096, .f32⟩
  | .hbm, ⟨60, _⟩ => ⟨S4096x8192, .f32⟩
  | .hbm, ⟨61, _⟩ => ⟨S_, .f32⟩
  | .hbm, ⟨62, _⟩ => ⟨S4096x8192, .f32⟩
  | .hbm, ⟨63, _⟩ => ⟨S4096x8192, .i1⟩
  | .hbm, ⟨64, _⟩ => ⟨S_, .f32⟩
  | .hbm, ⟨65, _⟩ => ⟨S_, .f32⟩
  | .hbm, ⟨66, _⟩ => ⟨S4096x8192, .f32⟩
  | .hbm, ⟨67, _⟩ => ⟨S4096x8192, .f32⟩
  | .hbm, ⟨68, _⟩ => ⟨S4096x8192, .f32⟩
  | .hbm, ⟨69, _⟩ => ⟨S4096x8192, .f32⟩
  | .hbm, ⟨70, _⟩ => ⟨S4096x8192, .f32⟩
  | .hbm, ⟨71, _⟩ => ⟨S_, .f32⟩
  | .hbm, ⟨72, _⟩ => ⟨S_, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v6 : Ref sig .tc := ⟨.hbm, 28, rfl⟩
abbrev main_c : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_3 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_4 : Ref sig .tc := ⟨.hbm, 42, rfl⟩
abbrev main_v15 : Ref sig .tc := ⟨.hbm, 43, rfl⟩
abbrev main_v16 : Ref sig .tc := ⟨.hbm, 44, rfl⟩
abbrev main_c_5 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_6 : Ref sig .tc := ⟨.hbm, 49, rfl⟩
abbrev main_v20 : Ref sig .tc := ⟨.hbm, 50, rfl⟩
abbrev main_v21 : Ref sig .tc := ⟨.hbm, 51, rfl⟩
abbrev main_c_7 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_8 : Ref sig .tc := ⟨.hbm, 61, rfl⟩
abbrev main_v30 : Ref sig .tc := ⟨.hbm, 62, rfl⟩
abbrev main_v31 : Ref sig .tc := ⟨.hbm, 63, rfl⟩
abbrev main_cst_9 : Ref sig .tc := ⟨.hbm, 64, rfl⟩
abbrev main_call2_v0 : Ref sig .tc := ⟨.hbm, 65, rfl⟩
abbrev main_call2_v1 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_10 : Ref sig .tc := ⟨.hbm, 71, rfl⟩
abbrev main_v36 : Ref sig .tc := ⟨.hbm, 72, rfl⟩

abbrev nD : Nat := 1
abbrev τ : Topo := Topo.v7x

variable {F : FTy → Type} [FloatOps F]
-- ==== Proof.Frames.lean ====
/- The frames of the three programs and the statements about the named constants.

   The kernel's frames come from the generated launch. The reference declares no semaphore, so its counters are zero at
   every state, and its generated run says that its arguments end unchanged. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_inputs
public import Idealize.ShloMosaic.Lib.Claim

@[expose] public section

noncomputable section

namespace Cert.Proof

open Idealize.ShloMosaic Idealize.SL.Sem

/-- The kernel at bit-exact floats runs, leaves its arguments, and leaves every counter at zero. -/
theorem frame_kernel : Cert.quiescent_Kernel := fun m ρ _ => Cert.Kernel.Gen.frame m ρ

/-- The same of the idealized kernel. -/
theorem frame_ideal : Cert.quiescent_KernelIdeal := fun m ρ _ => Cert.KernelIdeal.Gen.frame m ρ

/-- The same of the idealized kernel under the precondition. -/
theorem frame_ideal_pre : Cert.quiescent_KernelIdeal_pre_finite_inputs := fun m ρ _ => Cert.KernelIdeal.Gen.frame m ρ

/-- The same of the idealized reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same of the idealized reference under the precondition. -/
theorem frame_reference_pre : Cert.quiescent_ReferenceIdeal_pre_finite_inputs := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized kernel is the kernel with five constants named; each name stands for the word it replaces. -/
theorem preserves : Cert.preserves_Kernel_KernelIdeal :=
  ⟨IdealRules.named_const.statement Cert.KernelIdeal.κ "log2e_over_scale" .f32 0x3B38AA3B#32 _ rfl,
   IdealRules.named_const.statement Cert.KernelIdeal.κ "mass" .f32 0x3F80000A#32 _ rfl,
   IdealRules.named_const.statement Cert.KernelIdeal.κ "peak" .f32 0x3F7D708F#32 _ rfl,
   IdealRules.named_const.statement Cert.KernelIdeal.κ "eps" .f32 0x35A3E148#32 _ rfl,
   IdealRules.named_const.statement Cert.KernelIdeal.κ "entropy" .f32 0xC295A1C1#32 _ rfl⟩

end Cert.Proof

end
-- ==== Proof.KernelCases.lean ====
/- What the loss kernel leaves after each grid point.

   At the first point the body fills its two scratch buffers from the weights (the weights scaled, and their row sums) and
   starts the running loss at zero; at every point it adds one tile's loss to the running loss. Here the generated contents
   of the three buffers are read as those values, and the running loss after point `n` as a chain of `n + 1` tile steps. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Proof.LossKernel

open Cert.KernelIdeal Cert.KernelIdeal.Gen
open Idealize.ShloMosaic Idealize.ShloMosaic.TcCoe Idealize.SL.Sem

variable {F : FTy → Type} [FloatOps F] [Named F]

/-- One tile's step: the running loss `acc` plus the loss of the 512 rows `x`, with targets `tg` and mask `mk`, over the
    scaled weights `wq` and the row sums `ws` of the weights. -/
def tileStep (x : Vec F S512x768 .f32) (wq : Vec F S768x8192 .fp8e4m3) (ws : Vec F S768x1 .f32) (tg mk : Vec F S512x1 .i32)
    (acc : Elt F .f32) : Elt F .f32 :=
  k0_pay1 (k0_pay6 x wq) (k0_pay7 x wq mk tg) (k0_pay8 x) ws acc

/-- The one index of the running loss. -/
abbrev only : S1x1.Idx := fun a => ⟨0, by fin_cases a <;> decide⟩

/-- The running loss has one index. -/
theorem eq_only (j : S1x1.Idx) : j = only := by
  funext a
  have h : S1x1.size a = 1 := by fin_cases a <;> rfl
  apply Fin.ext
  have := (j a).isLt
  show (j a).val = 0
  omega

section Cases

variable (c : Dev nD) (i : grid0.Coords)
  (a1 : Memref sig .tc .vmem S512x768 .f32) (h1 : a1.IsWhole) (a2 : Memref sig .tc .vmem S768x8192 .f32) (h2 : a2.IsWhole)
  (a3 : Memref sig .tc .vmem S512x1 .i32) (h3 : a3.IsWhole) (a4 : Memref sig .tc .vmem S512x1 .i32) (h4 : a4.IsWhole)
  (a5 : Memref sig .tc .smem S1x1 .f32) (h5 : a5.IsWhole) (a6 : Memref sig .tc .vmem S768x8192 .fp8e4m3) (h6 : a6.IsWhole)
  (a7 : Memref sig .tc .vmem S768x1 .f32) (h7 : a7.IsWhole)
  (x0 : Vec F S512x768 .f32) (x1 : Vec F S768x8192 .f32) (x2 x3 : Vec F S512x1 .i32)

/-- A later point adds its tile to what the point before left. -/
theorem out_later (hc : ¬cond0_0 i) (xo : Vec F S1x1 .f32) (xs0 : Vec F S768x8192 .fp8e4m3) (xs1 : Vec F S768x1 .f32) :
    out0_B_4 c i a1 h1 a2 h2 a3 h3 a4 h4 a5 h5 a6 h6 a7 h7 hc x0 x1 x2 x3 xo xs0 xs1
      = fun _ => tileStep x0 xs0 xs1 x2 x3 (xo only) := by
  frame_out
  exact funext fun _ => congrArg (k0_pay1 _ _ _ _) (congrArg xo (eq_only _))

/-- The first point starts from zero, over the scratch it has just filled. -/
theorem out_first (hc : cond0_0 i) :
    out0_A_4 c i a1 h1 a2 h2 a3 h3 a4 h4 a5 h5 a6 h6 a7 h7 hc x0 x1 x2 x3
      = fun _ => tileStep x0 (k0_pay2 x1) (k0_pay3 x1) x2 x3 (Scalar.ofBits .f32 0x00000000#32) := by
  frame_out
  rfl

/-- The first point leaves the scaled weights in the first scratch. -/
theorem scratch_weights (hc : cond0_0 i) :
    sout0_A_0 c i a1 h1 a2 h2 a3 h3 a4 h4 a5 h5 a6 h6 a7 h7 hc x0 x1 x2 x3 = k0_pay2 x1 := by
  frame_out

/-- The first point leaves the weights' row sums in the second scratch. -/
theorem scratch_sums (hc : cond0_0 i) :
    sout0_A_1 c i a1 h1 a2 h2 a3 h3 a4 h4 a5 h5 a6 h6 a7 h7 hc x0 x1 x2 x3 = k0_pay3 x1 := by
  frame_out

end Cases

variable (m : (ℓ : Loc nD τ sig) → Buf (Elt F) ℓ)

/-- The weights as the first point reads them. -/
abbrev weights (c : Dev nD) : Vec F S768x8192 .f32 := iblk m c 1 ⟨0, by rw [show cfg0.N = 8 from N_0]; decide⟩

/-- The running loss after point `n`. -/
def chain (c : Dev nD) : (n : ℕ) → n < cfg0.N → Elt F .f32
  | 0, h => tileStep (iblk m c 0 ⟨0, h⟩) (k0_pay2 (weights m c)) (k0_pay3 (weights m c)) (iblk m c 2 ⟨0, h⟩) (iblk m c 3 ⟨0, h⟩)
      (Scalar.ofBits .f32 0x00000000#32)
  | n + 1, h => tileStep (iblk m c 0 ⟨n + 1, h⟩) (k0_pay2 (weights m c)) (k0_pay3 (weights m c)) (iblk m c 2 ⟨n + 1, h⟩)
      (iblk m c 3 ⟨n + 1, h⟩) (chain c n (Nat.lt_of_succ_lt h))

/-- After point `n` the three buffers hold the running loss, the scaled weights and the weights' row sums. -/
theorem outsAt_eq (c : Dev nD) : ∀ (n : ℕ) (h : n < cfg0.N),
    outsAt0 m c n h = (fun _ => chain m c n h, k0_pay2 (weights m c), k0_pay3 (weights m c))
  | 0, h => by
    rw [outsAt0_A m c ⟨0, h⟩ rfl, out_first, scratch_weights, scratch_sums]
    rfl
  | n + 1, h => by
    have hN : cfg0.N = 8 := N_0
    have hB : ¬(⟨n + 1, h⟩ : Fin cfg0.N).val % 8 = 0 := by dsimp only; omega
    rw [outsAt0_B m c ⟨n + 1, h⟩ hB, out_later]
    show (fun _ => tileStep _ (outsAt0 m c n _).2.1 (outsAt0 m c n _).2.2 _ _ ((outsAt0 m c n _).1 only),
      (outsAt0 m c n _).2.1, (outsAt0 m c n _).2.2) = _
    rw [outsAt_eq c n]
    rfl

/-- The loss: the running loss after the last point. -/
abbrev loss (c : Dev nD) : Elt F .f32 := chain m c 7 (by rw [show cfg0.N = 8 from N_0]; decide)

/-- The output array ends at the loss. -/
theorem array_eq (c : Dev nD) : (dats m 0 c).arrAt 4 (cfgs 0).N = fun _ => loss m c := by
  refine (dats m 0 c).arrAt_eq_of_after_last 4 t0_7 (by decide +kernel) _ fun j => ?_
  blk_simp
  rw [after0_4, outsAt_eq]
  rfl

/-- The result of the whole program: the loss as a scalar. -/
theorem tail_eq (c : Dev nD) :
    Pipeline.afterTail₀ cfgs (dats m) 0 (V0 m) [hostOps1] c main_v4 = fun _ => loss m c := by
  unfold Pipeline.afterTail₀
  simp only [hostOps1, List.flatten_cons, List.flatten_nil, List.append_nil]
  after_results_simp
  show shapeCast S_ (Pipeline.withArrays (cfgs 0).spec c (V0 m c) (fun w => (dats m 0 c).arrAt w (cfgs 0).N)
    (Proc.devRef .tc (Pipeline.arrRef (cfgs 0).spec 4))) shapeCasts_S1x1_S_ = _
  rw [Pipeline.withArrays_arr_shared _ _ _ _ ?_ 4, array_eq]
  · rfl
  · intro w w' hne e
    exact absurd e (by revert hne; revert w w'; decide)

/-- The kernel's run: the result ends at the loss, the arguments unchanged. -/
theorem run (ρ : Dev nD → PrngReg) :
    θ_run defs (onTc (τ := τ) (main (F := F))) ⟨m, fun _ => 0, ρ⟩ (fun r => ∀ c : Dev nD,
      r.2.mem ((c.tc : Thread nD τ).loc main_v4) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h.1 c, h.2 c⟩)
    (θ_run_and (Q₁ := fun r => ∀ c : Dev nD, r.2.mem ((c.tc : Thread nD τ).loc main_v4) = (fun _ => loss m c))
      ((θ_run defs _ _).mono
        (fun _ h c => ((h c).2 main_v4 (Pipeline.mem_restRefs_of main_v4 (by decide) (by decide))).trans (tail_eq m c))
        (run_main m ρ))
      (unchanged m ρ))

end Cert.Proof.LossKernel

end
-- ==== Proof.Consts.lean ====
/- The constants of the two programs as real numbers.

   The five named constants of the kernel, the plain ones of both programs, and the identity that makes the named entropy
   the sum of `t · log t` over the 512 rows of a tile, `t` being a smoothed target distribution. -/
module

public import proofs.«01_k».proof.KernelIdeal
public import Idealize.ShloMosaic.PureOps.Ideal
public import Idealize.ShloMosaic.PureOps.IdealRules
public import Mathlib.Analysis.SpecialFunctions.Pow.Real
public import Mathlib.Analysis.SpecialFunctions.Log.Basic

@[expose] public section

set_option exponentiation.threshold 1000

noncomputable section

namespace Cert.Proof.Consts

open Idealize.ShloMosaic

/-- The weight of a class that is not the target. -/
def eps : ℝ := 1 / 819000

/-- The weight of the target. -/
def conf : ℝ := 99 / 100

theorem eps_pos : 0 < eps := by norm_num [eps]

theorem conf_pos : 0 < conf := by norm_num [conf]

/-! ## Plain constants -/

theorem ofBits_64 : Ideal.ofBits .f32 0x42800000#32 = ((64 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_inv_512 : Ideal.ofBits .f32 0x3B000000#32 = ((1 / 512 : ℝ) : EReal) := by
  simp [Ideal.ofBits, Ideal.ieee, -EReal.coe_mul]; norm_num

theorem ofBits_100 : Ideal.ofBits .f32 0x42C80000#32 = ((100 : ℝ) : EReal) := by
  simp [Ideal.ofBits, Ideal.ieee, -EReal.coe_mul]; norm_num

theorem ofBits_neg_100 : Ideal.ofBits .f32 0xC2C80000#32 = ((-100 : ℝ) : EReal) := by
  simp [Ideal.ofBits, Ideal.ieee, -EReal.coe_mul]; norm_num

theorem ofBits_8190 : Ideal.ofBits .f32 0x45FFF000#32 = ((8190 : ℝ) : EReal) := by
  simp [Ideal.ofBits, Ideal.ieee, -EReal.coe_mul]; norm_num

theorem ofBits_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

/-! ## Named constants -/

theorem named_log2e : Named.named (F := Ideal) (φ := .f32) Cert.KernelIdeal.κ "log2e_over_scale" 0x3B38AA3B#32
    = (((Real.log 2)⁻¹ * (1 / 512) : ℝ) : EReal) :=
  IdealRules.named_const.ideal_named_scalar Cert.KernelIdeal.κ "log2e_over_scale" (φ := .f32) _ _ rfl

theorem named_mass : Named.named (F := Ideal) (φ := .f32) Cert.KernelIdeal.κ "mass" 0x3F80000A#32
    = ((8191 * eps + conf : ℝ) : EReal) := by
  rw [show (8191 * eps + conf : ℝ) = 819001 / 819000 by norm_num [eps, conf]]
  exact IdealRules.named_const.ideal_named_scalar Cert.KernelIdeal.κ "mass" (φ := .f32) _ _ rfl

theorem named_peak : Named.named (F := Ideal) (φ := .f32) Cert.KernelIdeal.κ "peak" 0x3F7D708F#32
    = ((conf - eps : ℝ) : EReal) := by
  rw [show (conf - eps : ℝ) = 810809 / 819000 by norm_num [eps, conf]]
  exact IdealRules.named_const.ideal_named_scalar Cert.KernelIdeal.κ "peak" (φ := .f32) _ _ rfl

theorem named_eps : Named.named (F := Ideal) (φ := .f32) Cert.KernelIdeal.κ "eps" 0x35A3E148#32 = ((eps : ℝ) : EReal) :=
  IdealRules.named_const.ideal_named_scalar Cert.KernelIdeal.κ "eps" (φ := .f32) _ _ rfl

/-- The entropy of one row of the target distribution, with its sign turned: `∑ t · log t`. -/
def rowEntropy : ℝ := conf * Real.log conf + 8191 * (eps * Real.log eps)

/-- The nested roots spell `8191 · log eps + 7994 · log conf` over `8192`, one root for each binary digit of 7994. -/
theorem log_roots : Real.log (Real.sqrt (Real.sqrt (Real.sqrt (Real.sqrt (Real.sqrt (Real.sqrt (Real.sqrt (Real.sqrt (Real.sqrt (Real.sqrt (Real.sqrt (Real.sqrt (Real.sqrt (1 * (1 / 819000)) * (11 / 9100000)) * (1 / 819000)) * (11 / 9100000)) * (11 / 9100000)) * (11 / 9100000)) * (1 / 819000)) * (1 / 819000)) * (11 / 9100000)) * (11 / 9100000)) * (11 / 9100000)) * (11 / 9100000)) * (11 / 9100000))) = (8191 * Real.log eps + 7994 * Real.log conf) / 8192 := by
  rw [show (1 / 819000 : ℝ) = eps from rfl, show (11 / 9100000 : ℝ) = eps * conf by norm_num [eps, conf]]
  have he := eps_pos
  have hc := conf_pos
  simp (disch := positivity) only [Real.log_mul, Real.log_sqrt, Real.log_one]
  ring

/-- The named entropy is 512 rows' worth of `∑ t · log t`. -/
theorem entropy_eq : (512 * ((1024 / 102375) * (Real.log ((3734642804542694673304928339684903440360290548300415176063232044682349196517954782034451010203315482100413928177255823637569999967368629893450722931248929438566374350178376781666664444435951520201 / 10000000000000000000000000000000000000000000000000000000000000000000000000000000000000000000000000000000000000000000000000000000000000000000000000000000000000000000000000000000000000000000000000000) * (Real.sqrt (Real.sqrt (Real.sqrt (Real.sqrt (Real.sqrt (Real.sqrt (Real.sqrt (Real.sqrt (Real.sqrt (Real.sqrt (Real.sqrt (Real.sqrt (Real.sqrt (1 * (1 / 819000)) * (11 / 9100000)) * (1 / 819000)) * (11 / 9100000)) * (11 / 9100000)) * (11 / 9100000)) * (1 / 819000)) * (1 / 819000)) * (11 / 9100000)) * (11 / 9100000)) * (11 / 9100000)) * (11 / 9100000)) * (11 / 9100000)))))) : ℝ) = 512 * rowEntropy := by
  rw [show (3734642804542694673304928339684903440360290548300415176063232044682349196517954782034451010203315482100413928177255823637569999967368629893450722931248929438566374350178376781666664444435951520201 / 10000000000000000000000000000000000000000000000000000000000000000000000000000000000000000000000000000000000000000000000000000000000000000000000000000000000000000000000000000000000000000000000000000 : ℝ) = conf ^ 98 by norm_num [conf], Real.log_mul (pow_ne_zero _ conf_pos.ne') (by positivity), Real.log_pow,
    log_roots, rowEntropy]
  rw [show eps * Real.log eps = 1 / 819000 * Real.log eps from rfl, show conf * Real.log conf = 99 / 100 * Real.log conf from rfl]
  push_cast
  ring

theorem named_entropy : Named.named (F := Ideal) (φ := .f32) Cert.KernelIdeal.κ "entropy" 0xC295A1C1#32
    = ((512 * rowEntropy : ℝ) : EReal) := by
  rw [← entropy_eq]
  exact IdealRules.named_const.ideal_named_scalar Cert.KernelIdeal.κ "entropy" (φ := .f32) _ _ rfl

end Cert.Proof.Consts

end
-- ==== Proof.Reals.lean ====
/- The loss over the real numbers.

   `rowLoss` is one row of the reference's loss: the sum over the classes of `t · (log t − log p)`, `t` the smoothed target
   distribution and `log p` the row's logits less their log-sum-exp. `tileLoss` is what the kernel adds at one grid point,
   and `tileLoss_eq` says that it is the sum of the tile's rows. -/
module

public import proofs.«01_k».proof.Proof.Consts
public import Mathlib.Data.EReal.Operations

@[expose] public section

noncomputable section

namespace Cert.Proof

open Consts Idealize.ShloMosaic
open scoped BigOperators

/-! ## Real numbers among the extended reals -/

/-- A finite sum of reals is the same sum taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of a positive real. -/
theorem log_coe_of_pos {r : ℝ} (h : 0 < r) : Ideal.log (r : EReal) = (Real.log r : EReal) :=
  if_neg (not_le.2 h)

/-- Two to a power given in units of `1 / log 2` is the exponential. -/
theorem exp2_coe_scaled (l : ℝ) : Ideal.exp2 ((l * (Real.log 2)⁻¹ : ℝ) : EReal) = (Real.exp l : EReal) := by
  show ((Real.rpow 2 _ : ℝ) : EReal) = _
  congr 1
  show (2 : ℝ) ^ (l * (Real.log 2)⁻¹) = _
  rw [Real.rpow_def_of_pos (by norm_num)]
  congr 1
  have : Real.log 2 ≠ 0 := (Real.log_pos (by norm_num)).ne'
  field_simp

/-- An extended real that is neither infinity is a real. -/
theorem coe_of_abs_lt_top {e : EReal} (h : max e (-e) < ⊤) : ((e.toReal : ℝ) : EReal) = e := by
  refine EReal.coe_toReal (fun he => ?_) (fun he => ?_)
  · rw [he] at h; exact absurd h (by simp)
  · rw [he] at h; exact absurd h (by simp)

/-! ## One row -/

/-- The sum of the exponentials of a row of logits is positive. -/
theorem sum_exp_pos (l : Fin 8192 → ℝ) : 0 < ∑ v, Real.exp (l v) :=
  Finset.sum_pos (fun _ _ => Real.exp_pos _) ⟨0, Finset.mem_univ _⟩

/-- The log-sum-exp of a row of logits. -/
def lse (l : Fin 8192 → ℝ) : ℝ := Real.log (∑ v, Real.exp (l v))

/-- Taking a number from every logit takes it from the log-sum-exp. -/
theorem lse_shift (l : Fin 8192 → ℝ) (c : ℝ) : Real.log (∑ v, Real.exp (l v - c)) = lse l - c := by
  have h : ∑ v, Real.exp (l v - c) = (∑ v, Real.exp (l v)) * Real.exp (-c) := by
    rw [Finset.sum_mul]
    exact Finset.sum_congr rfl fun v _ => by rw [sub_eq_add_neg, Real.exp_add]
  rw [h, Real.log_mul (sum_exp_pos l).ne' (Real.exp_pos _).ne', Real.log_exp, lse, sub_eq_add_neg]

/-- The smoothed target distribution of a row whose target is class `t`. -/
def smooth (t v : Fin 8192) : ℝ := if v = t then conf else eps

/-- One row's loss. -/
def rowLoss (l : Fin 8192 → ℝ) (t : Fin 8192) : ℝ := ∑ v, smooth t v * (Real.log (smooth t v) - (l v - lse l))

/-- A row's loss in the kernel's terms: the log-sum-exp, the target's logit and the sum of the logits. -/
theorem rowLoss_eq (l : Fin 8192 → ℝ) (t : Fin 8192) :
    rowLoss l t = ((8191 * eps + conf) * lse l - (conf - eps) * l t) - eps * (∑ v, l v) + rowEntropy := by
  have hterm : ∀ v, smooth t v * (Real.log (smooth t v) - (l v - lse l))
      = eps * (Real.log eps - (l v - lse l))
        + (if v = t then conf * (Real.log conf - (l t - lse l)) - eps * (Real.log eps - (l t - lse l)) else 0) := by
    intro v
    unfold smooth
    by_cases h : v = t
    · subst h; simp
    · simp [h]
  unfold rowLoss
  rw [Finset.sum_congr rfl fun v _ => hterm v, Finset.sum_add_distrib, Finset.sum_ite_eq' Finset.univ t, if_pos (Finset.mem_univ _),
    ← Finset.mul_sum, Finset.sum_sub_distrib, Finset.sum_sub_distrib, Finset.sum_const, Finset.sum_const, Finset.card_univ,
    Fintype.card_fin, rowEntropy]
  simp only [nsmul_eq_mul]
  push_cast
  ring

/-! ## One tile -/

/-- The logits of a row. -/
def logits {R : Type*} (x : R → Fin 768 → ℝ) (w : Fin 768 → Fin 8192 → ℝ) (r : R) (v : Fin 8192) : ℝ := ∑ k, x r k * w k v

/-- What the kernel adds for a tile of 512 rows. -/
def tileLoss (x : Fin 512 → Fin 768 → ℝ) (w : Fin 768 → Fin 8192 → ℝ) (t : Fin 512 → Fin 8192) : ℝ :=
  (∑ r, ((8191 * eps + conf) * lse (logits x w r) - (conf - eps) * logits x w r (t r)))
    - eps * (∑ k, (∑ r, x r k) * (∑ v, w k v)) + 512 * rowEntropy

/-- The logits of a tile sum to the product of the column sums of the rows and the row sums of the weights. -/
theorem sum_logits (x : Fin 512 → Fin 768 → ℝ) (w : Fin 768 → Fin 8192 → ℝ) :
    ∑ r, ∑ v, logits x w r v = ∑ k, (∑ r, x r k) * (∑ v, w k v) := by
  unfold logits
  rw [Finset.sum_congr rfl fun k _ => Finset.sum_mul_sum _ _ _ _, Finset.sum_comm]
  refine Eq.trans ?_ (Finset.sum_comm (s := Finset.univ) (t := Finset.univ)).symm
  rw [Finset.sum_comm]
  refine Finset.sum_congr rfl fun r _ => ?_
  rw [Finset.sum_comm]

/-- The kernel's tile is the sum of its rows' losses. -/
theorem tileLoss_eq (x : Fin 512 → Fin 768 → ℝ) (w : Fin 768 → Fin 8192 → ℝ) (t : Fin 512 → Fin 8192) :
    tileLoss x w t = ∑ r, rowLoss (logits x w r) (t r) := by
  unfold tileLoss
  rw [Finset.sum_congr rfl fun r _ => rowLoss_eq _ _, Finset.sum_add_distrib,
    Finset.sum_sub_distrib (f := fun r => (8191 * eps + conf) * lse (logits x w r) - (conf - eps) * logits x w r (t r)),
    ← Finset.mul_sum (f := fun r => ∑ v, logits x w r v), sum_logits]
  simp

end Cert.Proof

end
-- ==== Proof.KernelTile.lean ====
/- One tile's step of the loss kernel over the reals: what each payload of the body is at an index, and the step as the
   running loss plus `tileLoss`. -/
module

public import proofs.«01_k».proof.Proof.KernelCases
public import proofs.«01_k».proof.Proof.Reals
public import Idealize.ShloMosaic.Lib.Pointwise

@[expose] public section

set_option maxRecDepth 16384

noncomputable section

namespace Cert.Proof.LossKernel

open Cert.KernelIdeal Cert.KernelIdeal.Gen
open Idealize.ShloMosaic Consts

/-! ## The payloads at an index -/

/-- The scaled weights. -/
theorem pay2_apply (w : Vec Ideal S768x8192 .f32) (k : Fin 768) (v : Fin 8192) :
    k0_pay2 w (ix2 k v) = w (ix2 k v) * ((64 : ℝ) : EReal) := by
  pointwise [k0_pay2]
  rw [ofBits_64]

/-- The weights' row sums. -/
theorem pay3_apply (w : Vec Ideal S768x8192 .f32) (k : Fin 768) :
    k0_pay3 w (ix2 k 0) = ∑ v : Fin 8192, w (ix2 k v) := by
  pointwise [k0_pay3]

/-- The scaled logits. -/
theorem pay5_apply (x : Vec Ideal S512x768 .f32) (w : Vec Ideal S768x8192 .fp8e4m3) (r : Fin 512) (v : Fin 8192) :
    k0_pay5 x w (ix2 r v) = ∑ k : Fin 768, x (ix2 r k) * ((8 : ℝ) : EReal) * w (ix2 k v) := by
  pointwise [k0_pay5, k0_pay4]
  rw [ofBits_8]

/-- The rows' log-sum-exps, from the scaled logits. -/
theorem pay6_apply (x : Vec Ideal S512x768 .f32) (w : Vec Ideal S768x8192 .fp8e4m3) (r : Fin 512) :
    k0_pay6 x w (ix2 r 0)
      = Ideal.log (∑ v : Fin 8192, Ideal.exp2 (k0_pay5 x w (ix2 r v) * (((Real.log 2)⁻¹ * (1 / 512) : ℝ) : EReal))) := by
  pointwise [k0_pay6]
  rw [named_log2e]
  rfl

/-- The targets' logits, from the scaled logits: the sum that keeps the column the target's word names. -/
theorem pay7_apply (x : Vec Ideal S512x768 .f32) (w : Vec Ideal S768x8192 .fp8e4m3) (mk tg : Vec Ideal S512x1 .i32) (r : Fin 512) :
    k0_pay7 x w mk tg (ix2 r 0)
      = (∑ v : Fin 8192, Scalar.select (IntOp.cmpi .eq (BitVec.ofNat 32 v.val)
          (Scalar.select (IntOp.cmpi .eq (mk (ix2 r 0)) 0#32) 8092#32 (tg (ix2 r 0)))) (k0_pay5 x w (ix2 r v)) 0)
        * ((1 / 512 : ℝ) : EReal) := by
  pointwise [k0_pay7]
  rw [ofBits_inv_512]

/-- The tile's column sums. -/
theorem pay8_apply (x : Vec Ideal S512x768 .f32) (k : Fin 768) :
    k0_pay8 x (ix2 0 k) = ∑ r : Fin 512, x (ix2 r k) := by
  pointwise [k0_pay8, k0_pay4]

/-- The step from its parts. -/
theorem pay1_apply (ls tl : FVec Ideal S512x1 .f32) (xs : FVec Ideal S1x768 .f32) (ws : Vec Ideal S768x1 .f32) (acc : Elt Ideal .f32) :
    k0_pay1 ls tl xs ws acc
      = acc + (((∑ r : Fin 512, (((8191 * eps + conf : ℝ) : EReal) * ls (ix2 r 0) - ((conf - eps : ℝ) : EReal) * tl (ix2 r 0)))
        - ((eps : ℝ) : EReal) * ∑ k : Fin 768, xs (ix2 0 k) * ws (ix2 k 0)) + ((512 * rowEntropy : ℝ) : EReal)) := by
  pointwise [k0_pay1]
  rw [named_mass, named_peak, named_eps, named_entropy]
  simp only [Finset.univ_unique, Finset.sum_singleton]

/-! ## The step over the reals -/

section Real

variable {xv : Vec Ideal S512x768 .f32} {wv : Vec Ideal S768x8192 .f32} {mk tg : Vec Ideal S512x1 .i32}
  {x : Fin 512 → Fin 768 → ℝ} {w : Fin 768 → Fin 8192 → ℝ} {t : Fin 512 → Fin 8192}

/-- The scaled logits are 512 times the logits. -/
theorem pay5_real (hx : ∀ r k, xv (ix2 r k) = (x r k : EReal)) (hw : ∀ k v, wv (ix2 k v) = (w k v : EReal)) (r : Fin 512)
    (v : Fin 8192) : k0_pay5 xv (k0_pay2 wv) (ix2 r v) = ((512 * logits x w r v : ℝ) : EReal) := by
  rw [pay5_apply, logits, Finset.mul_sum, coe_sum]
  refine Finset.sum_congr rfl fun k _ => ?_
  rw [pay2_apply, hx, hw, ← EReal.coe_mul, ← EReal.coe_mul, ← EReal.coe_mul]
  congr 1
  ring

/-- The log-sum-exps. -/
theorem pay6_real (hx : ∀ r k, xv (ix2 r k) = (x r k : EReal)) (hw : ∀ k v, wv (ix2 k v) = (w k v : EReal)) (r : Fin 512) :
    k0_pay6 xv (k0_pay2 wv) (ix2 r 0) = ((lse (logits x w r) : ℝ) : EReal) := by
  rw [pay6_apply, lse, ← log_coe_of_pos (sum_exp_pos _), coe_sum]
  refine congrArg Ideal.log (Finset.sum_congr rfl fun v _ => ?_)
  rw [pay5_real hx hw, ← EReal.coe_mul, ← exp2_coe_scaled]
  congr 2
  ring

/-- The targets' logits. -/
theorem pay7_real (hx : ∀ r k, xv (ix2 r k) = (x r k : EReal)) (hw : ∀ k v, wv (ix2 k v) = (w k v : EReal))
    (ht : ∀ r, Scalar.select (IntOp.cmpi .eq (mk (ix2 r 0)) 0#32) 8092#32 (tg (ix2 r 0)) = BitVec.ofNat 32 (t r).val) (r : Fin 512) :
    k0_pay7 xv (k0_pay2 wv) mk tg (ix2 r 0) = ((logits x w r (t r) : ℝ) : EReal) := by
  rw [pay7_apply, ht]
  have hs : ∀ v : Fin 8192, Scalar.select (IntOp.cmpi .eq (BitVec.ofNat 32 v.val) (BitVec.ofNat 32 (t r).val))
      (k0_pay5 xv (k0_pay2 wv) (ix2 r v)) 0 = if v = t r then ((512 * logits x w r v : ℝ) : EReal) else 0 := by
    intro v
    rw [pay5_real hx hw]
    by_cases h : v = t r
    · rw [if_pos h, h]
      simp [IntOp.cmpi, Scalar.select]
    · rw [if_neg h]
      have hne : BitVec.ofNat 32 v.val ≠ BitVec.ofNat 32 (t r).val := by
        intro e
        have e' := congrArg BitVec.toNat e
        rw [BitVec.toNat_ofNat, BitVec.toNat_ofNat] at e'
        have := v.isLt
        have := (t r).isLt
        exact h (Fin.ext (by omega))
      have hb : IntOp.cmpi .eq (BitVec.ofNat 32 v.val) (BitVec.ofNat 32 (t r).val) = 0#1 := by
        show BitVec.ofBool (BitVec.ofNat 32 v.val == BitVec.ofNat 32 (t r).val) = 0#1
        rw [beq_eq_false_iff_ne.2 hne]
        rfl
      rw [hb]
      rfl
  rw [Finset.sum_congr rfl fun v _ => hs v, Finset.sum_ite_eq' Finset.univ (t r), if_pos (Finset.mem_univ _), ← EReal.coe_mul]
  congr 1
  ring

/-- One step adds the tile's loss. -/
theorem tileStep_real (hx : ∀ r k, xv (ix2 r k) = (x r k : EReal)) (hw : ∀ k v, wv (ix2 k v) = (w k v : EReal))
    (ht : ∀ r, Scalar.select (IntOp.cmpi .eq (mk (ix2 r 0)) 0#32) 8092#32 (tg (ix2 r 0)) = BitVec.ofNat 32 (t r).val) (a : ℝ) :
    tileStep (F := Ideal) xv (k0_pay2 wv) (k0_pay3 wv) tg mk (a : EReal) = ((a + tileLoss x w t : ℝ) : EReal) := by
  unfold tileStep
  rw [pay1_apply, tileLoss]
  have h1 : ∀ r : Fin 512, ((8191 * eps + conf : ℝ) : EReal) * k0_pay6 xv (k0_pay2 wv) (ix2 r 0)
      - ((conf - eps : ℝ) : EReal) * k0_pay7 xv (k0_pay2 wv) mk tg (ix2 r 0)
      = (((8191 * eps + conf) * lse (logits x w r) - (conf - eps) * logits x w r (t r) : ℝ) : EReal) := by
    intro r
    rw [pay6_real hx hw, pay7_real hx hw ht, ← EReal.coe_mul, ← EReal.coe_mul, ← EReal.coe_sub]
  have h2 : ∀ k : Fin 768, k0_pay8 xv (ix2 0 k) * k0_pay3 wv (ix2 k 0) = (((∑ r, x r k) * (∑ v, w k v) : ℝ) : EReal) := by
    intro k
    rw [pay8_apply, pay3_apply, EReal.coe_mul, coe_sum, coe_sum]
    simp only [hx, hw]
  rw [Finset.sum_congr rfl fun r _ => h1 r, Finset.sum_congr rfl fun k _ => h2 k, ← coe_sum, ← coe_sum, ← EReal.coe_mul,
    ← EReal.coe_sub, ← EReal.coe_add, ← EReal.coe_add]

end Real

end Cert.Proof.LossKernel

end
-- ==== Proof.Args.lean ====
/- The programs' arguments as real numbers and classes.

   Both programs flatten the two leading axes, of sizes 2 and 2048, into 4096 rows. `RealArgs` says that the rows and the
   weights are real numbers and that the class each row is scored against, its target or class 8092 where the mask is zero,
   is one of the 8192; `total` is the loss of such arguments. -/
module

public import proofs.«01_k».proof.Proof.Reals
public import Idealize.ShloMosaic.Lib.Pointwise

@[expose] public section

noncomputable section

namespace Cert.Proof

open Idealize.ShloMosaic
open scoped BigOperators

/-- The first leading coordinate of a row among the 4096. -/
abbrev batch (R : Fin 4096) : Fin 2 := ⟨R.val / 2048, by have := R.isLt; omega⟩

/-- The second leading coordinate of a row among the 4096. -/
abbrev position (R : Fin 4096) : Fin 2048 := ⟨R.val % 2048, by omega⟩

/-- The word of the class that a row is scored against. -/
abbrev classWord (mask target : BitVec 32) : BitVec 32 := Scalar.select (IntOp.cmpi .eq mask 0#32) 8092#32 target

/-- The arguments are real: `x` the rows, `w` the weights, `t` the classes that the rows are scored against. -/
structure RealArgs (a0 : (⟨3, ![2, 2048, 768]⟩ : Shape).Idx → EReal) (a1 a2 : (⟨2, ![2, 2048]⟩ : Shape).Idx → BitVec 32)
    (a3 : (⟨2, ![768, 8192]⟩ : Shape).Idx → EReal)
    (x : Fin 4096 → Fin 768 → ℝ) (w : Fin 768 → Fin 8192 → ℝ) (t : Fin 4096 → Fin 8192) : Prop where
  rows : ∀ R k, a0 (ix3 (batch R) (position R) k) = (x R k : EReal)
  weights : ∀ k v, a3 (ix2 k v) = (w k v : EReal)
  classes : ∀ R, classWord (a2 (ix2 (batch R) (position R))) (a1 (ix2 (batch R) (position R))) = BitVec.ofNat 32 (t R).val

/-- The loss of all the rows. -/
def total (x : Fin 4096 → Fin 768 → ℝ) (w : Fin 768 → Fin 8192 → ℝ) (t : Fin 4096 → Fin 8192) : ℝ :=
  ∑ R, rowLoss (logits x w R) (t R)

end Cert.Proof

end
-- ==== Proof.KernelBlocks.lean ====
/- The kernel's blocks read at an index of its arguments.

   The program flattens the two leading axes of the rows, the targets and the mask into 4096 rows, and grid point `t` takes
   rows `512 t` to `512 t + 511` of each; the weights are one block. -/
module

public import proofs.«01_k».proof.Proof.KernelTile
public import proofs.«01_k».proof.Proof.Args

@[expose] public section

set_option maxRecDepth 16384

noncomputable section

namespace Cert.Proof.LossKernel

open Cert.KernelIdeal Cert.KernelIdeal.Gen
open Idealize.ShloMosaic Idealize.ShloMosaic.TcCoe Idealize.SL.Sem

/-! ## The flattened rows -/

/-- Row `r` of tile `n`, among the 4096 rows. -/
def rowOf (n : ℕ) (h : n < cfg0.N) (r : Fin 512) : Fin 4096 :=
  ⟨n * 512 + r.val, by have h8 : n < 8 := lt_of_lt_of_eq h N_0; have := r.isLt; omega⟩

/-- A flattened array of three axes at an index. -/
theorem flat3 {α : Type} (x : S2x2048x768.Idx → α) (h : S2x2048x768.ShapeCasts S4096x768) (R : Fin 4096) (k : Fin 768) :
    shapeCast S4096x768 x h (ix2 R k) = x (ix3 (batch R) (position R) k) := by
  pointwise

/-- A flattened array of two axes at an index. -/
theorem flat2 {α : Type} (x : S2x2048.Idx → α) (h : S2x2048.ShapeCasts S4096x1) (R : Fin 4096) :
    shapeCast S4096x1 x h (ix2 R 0) = x (ix2 (batch R) (position R)) := by
  pointwise

/-! ## The blocks -/

theorem index_rows : ∀ t : Fin cfg0.N, win0_0.index t 0 = t.val ∧ win0_0.index t 1 = 0 := by decide +kernel
theorem index_weights : ∀ t : Fin cfg0.N, win0_1.index t 0 = 0 ∧ win0_1.index t 1 = 0 := by decide +kernel
theorem index_targets : ∀ t : Fin cfg0.N, win0_2.index t 0 = t.val ∧ win0_2.index t 1 = 0 := by decide +kernel
theorem index_mask : ∀ t : Fin cfg0.N, win0_3.index t 0 = t.val ∧ win0_3.index t 1 = 0 := by decide +kernel

variable (m : (ℓ : Loc nD τ sig) → Buf (Elt Ideal) ℓ) (c : Dev nD)

/-- The rows as the region reads them: the first argument flattened. -/
theorem rows_eq : (V m c main_v0 : Vec Ideal S4096x768 .f32)
    = shapeCast S4096x768 (m ((c.tc : Thread nD τ).loc main_arg0) : Vec Ideal S2x2048x768 .f32) shapeCasts_S2x2048x768_S4096x768 := by
  unfold V V0
  simp only [hostOps0, List.flatten_cons, List.flatten_nil, List.append_nil]
  after_results_simp
  rfl

/-- The targets as the region reads them: the second argument flattened. -/
theorem targets_eq : (V m c main_v1 : Vec Ideal S4096x1 .i32)
    = shapeCast S4096x1 (m ((c.tc : Thread nD τ).loc main_arg1) : Vec Ideal S2x2048 .i32) shapeCasts_S2x2048_S4096x1 := by
  unfold V V0
  simp only [hostOps0, List.flatten_cons, List.flatten_nil, List.append_nil]
  after_results_simp
  rfl

/-- The mask as the region reads it: the third argument flattened. -/
theorem mask_eq : (V m c main_v2 : Vec Ideal S4096x1 .i32)
    = shapeCast S4096x1 (m ((c.tc : Thread nD τ).loc main_arg2) : Vec Ideal S2x2048 .i32) shapeCasts_S2x2048_S4096x1 := by
  unfold V V0
  simp only [hostOps0, List.flatten_cons, List.flatten_nil, List.append_nil]
  after_results_simp
  rfl

/-- The tile's rows at an index. -/
theorem block_rows (n : ℕ) (h : n < cfg0.N) (r : Fin 512) (k : Fin 768) :
    (iblk m c 0 ⟨n, h⟩ : Vec Ideal S512x768 .f32) (ix2 r k)
      = (m ((c.tc : Thread nD τ).loc main_arg0) : Vec Ideal S2x2048x768 .f32)
          (ix3 (batch (rowOf n h r)) (position (rowOf n h r)) k) := by
  refine Eq.trans ?_ (flat3 (m ((c.tc : Thread nD τ).loc main_arg0) : Vec Ideal S2x2048x768 .f32) shapeCasts_S2x2048x768_S4096x768
    (rowOf n h r) k)
  rw [← rows_eq]
  unfold iblk
  blk_simp
  refine congrArg (V m c main_v0 : Vec Ideal S4096x768 .f32) ?_
  blk_ext
  · rw [(index_rows _).1]; rfl
  · rw [(index_rows _).2]; omega

/-- The weights at an index. -/
theorem block_weights (t : Fin cfg0.N) (k : Fin 768) (v : Fin 8192) :
    (iblk m c 1 t : Vec Ideal S768x8192 .f32) (ix2 k v)
      = (m ((c.tc : Thread nD τ).loc main_arg3) : Vec Ideal S768x8192 .f32) (ix2 k v) := by
  unfold iblk
  blk_simp
  rw [V_main_arg3]
  refine congrArg (m ((c.tc : Thread nD τ).loc main_arg3) : Vec Ideal S768x8192 .f32) ?_
  blk_ext
  · rw [(index_weights _).1]; omega
  · rw [(index_weights _).2]; omega

/-- The tile's targets at an index. -/
theorem block_targets (n : ℕ) (h : n < cfg0.N) (r : Fin 512) :
    (iblk m c 2 ⟨n, h⟩ : Vec Ideal S512x1 .i32) (ix2 r 0)
      = (m ((c.tc : Thread nD τ).loc main_arg1) : Vec Ideal S2x2048 .i32) (ix2 (batch (rowOf n h r)) (position (rowOf n h r))) := by
  refine Eq.trans ?_ (flat2 (m ((c.tc : Thread nD τ).loc main_arg1) : Vec Ideal S2x2048 .i32) shapeCasts_S2x2048_S4096x1 (rowOf n h r))
  rw [← targets_eq]
  unfold iblk
  blk_simp
  refine congrArg (V m c main_v1 : Vec Ideal S4096x1 .i32) ?_
  blk_ext
  · rw [(index_targets _).1]; rfl
  · rw [(index_targets _).2]

/-- The tile's mask at an index. -/
theorem block_mask (n : ℕ) (h : n < cfg0.N) (r : Fin 512) :
    (iblk m c 3 ⟨n, h⟩ : Vec Ideal S512x1 .i32) (ix2 r 0)
      = (m ((c.tc : Thread nD τ).loc main_arg2) : Vec Ideal S2x2048 .i32) (ix2 (batch (rowOf n h r)) (position (rowOf n h r))) := by
  refine Eq.trans ?_ (flat2 (m ((c.tc : Thread nD τ).loc main_arg2) : Vec Ideal S2x2048 .i32) shapeCasts_S2x2048_S4096x1 (rowOf n h r))
  rw [← mask_eq]
  unfold iblk
  blk_simp
  refine congrArg (V m c main_v2 : Vec Ideal S4096x1 .i32) ?_
  blk_ext
  · rw [(index_mask _).1]; rfl
  · rw [(index_mask _).2]

end Cert.Proof.LossKernel

end
-- ==== Proof.KernelValue.lean ====
/- The kernel's result: after each grid point the running loss is the loss of the rows seen so far, so that the last point
   leaves the loss of all 4096 rows. -/
module

public import proofs.«01_k».proof.Proof.KernelBlocks

@[expose] public section

set_option maxRecDepth 16384

noncomputable section

namespace Cert.Proof.LossKernel

open Cert.KernelIdeal Cert.KernelIdeal.Gen
open Idealize.ShloMosaic Idealize.ShloMosaic.TcCoe Idealize.SL.Sem
open scoped BigOperators

variable (m : (ℓ : Loc nD τ sig) → Buf (Elt Ideal) ℓ) (c : Dev nD)

/-- The loss of row `j`, and zero past the last row. -/
def lossAt (x : Fin 4096 → Fin 768 → ℝ) (w : Fin 768 → Fin 8192 → ℝ) (t : Fin 4096 → Fin 8192) (j : ℕ) : ℝ :=
  if h : j < 4096 then rowLoss (logits x w ⟨j, h⟩) (t ⟨j, h⟩) else 0

/-- The losses of the first 4096 rows are the total. -/
theorem sum_lossAt (x : Fin 4096 → Fin 768 → ℝ) (w : Fin 768 → Fin 8192 → ℝ) (t : Fin 4096 → Fin 8192) :
    ∑ j ∈ Finset.range 4096, lossAt x w t j = total x w t := by
  rw [Finset.sum_range, total]
  exact Finset.sum_congr rfl fun R _ => dif_pos R.isLt

/-- A tile's loss is the sum of its 512 rows' losses. -/
theorem tile_lossAt (x : Fin 4096 → Fin 768 → ℝ) (w : Fin 768 → Fin 8192 → ℝ) (t : Fin 4096 → Fin 8192) (n : ℕ) (h : n < cfg0.N) :
    tileLoss (fun r => x (rowOf n h r)) w (fun r => t (rowOf n h r)) = ∑ j ∈ Finset.range 512, lossAt x w t (n * 512 + j) := by
  rw [tileLoss_eq, Finset.sum_range]
  refine Finset.sum_congr rfl fun r _ => ?_
  rw [lossAt, dif_pos (show n * 512 + r.val < 4096 from (rowOf n h r).isLt)]
  rfl

variable {x : Fin 4096 → Fin 768 → ℝ} {w : Fin 768 → Fin 8192 → ℝ} {t : Fin 4096 → Fin 8192}

/-- The running loss after point `n`. -/
theorem chain_real (hr : RealArgs (m ((c.tc : Thread nD τ).loc main_arg0)) (m ((c.tc : Thread nD τ).loc main_arg1))
      (m ((c.tc : Thread nD τ).loc main_arg2)) (m ((c.tc : Thread nD τ).loc main_arg3)) x w t) :
    ∀ (n : ℕ) (h : n < cfg0.N), chain m c n h = ((∑ j ∈ Finset.range ((n + 1) * 512), lossAt x w t j : ℝ) : EReal) := by
  have step : ∀ (n : ℕ) (h : n < cfg0.N) (a : ℝ),
      tileStep (F := Ideal) (iblk m c 0 ⟨n, h⟩) (k0_pay2 (weights m c)) (k0_pay3 (weights m c)) (iblk m c 2 ⟨n, h⟩) (iblk m c 3 ⟨n, h⟩) (a : EReal)
        = ((a + ∑ j ∈ Finset.range 512, lossAt x w t (n * 512 + j) : ℝ) : EReal) := by
    intro n h a
    rw [← tile_lossAt x w t n h]
    refine tileStep_real (fun r k => ?_) (fun k v => ?_) (fun r => ?_) a
    · rw [block_rows]; exact hr.rows _ _
    · unfold weights; rw [block_weights]; exact hr.weights _ _
    · rw [block_targets, block_mask]; exact hr.classes _
  intro n
  induction n with
  | zero =>
    intro h
    refine Eq.trans ?_ ((step 0 h 0).trans ?_)
    · rw [chain]
      exact congrArg _ Ideal.ofBits_zero_f32
    · simp
  | succ n ih =>
    intro h
    show tileStep _ _ _ _ _ (chain m c n (Nat.lt_of_succ_lt h)) = _
    rw [ih (Nat.lt_of_succ_lt h), step (n + 1) h, add_mul (n + 1) 1 512, one_mul, Finset.sum_range_add]

/-- The kernel's result is the loss of all the rows. -/
theorem loss_real (hr : RealArgs (m ((c.tc : Thread nD τ).loc main_arg0)) (m ((c.tc : Thread nD τ).loc main_arg1))
      (m ((c.tc : Thread nD τ).loc main_arg2)) (m ((c.tc : Thread nD τ).loc main_arg3)) x w t) :
    loss m c = ((total x w t : ℝ) : EReal) := by
  refine (chain_real m c hr 7 _).trans ?_
  rw [← sum_lossAt]

end Cert.Proof.LossKernel

end
-- ==== Proof.RefLogits.lean ====
/- The reference's log-softmax over the real numbers: with real rows and weights and a zero bias, the entry of row `R` and
   class `v` is the logit less the row's log-sum-exp. The row's maximum, which the reference takes from the logits first,
   is some real number and cancels. -/
module

public import proofs.«01_k».proof.Proof.Args
public import proofs.«01_k».proof.Proof.Gen.ReferenceIdeal.Read

@[expose] public section

set_option maxRecDepth 16384

noncomputable section

namespace Cert.Proof.LossReference

open Cert.ReferenceIdeal Cert.ReferenceIdeal.Gen Cert.ReferenceIdeal.Read
open Idealize.ShloMosaic
open scoped BigOperators

variable {x0 : (⟨S2x2048x768, .f32⟩ : BufTy).Contents (Elt Ideal)} {x3 : (⟨S768x8192, .f32⟩ : BufTy).Contents (Elt Ideal)}
  {x4 : (⟨S8192, .f32⟩ : BufTy).Contents (Elt Ideal)}

/-- The maximum of finitely many reals, taken from minus infinity, is a real. -/
theorem fold_max_real (f : Fin 8192 → ℝ) : ∃ c : ℝ, Finset.univ.fold max (⊥ : EReal) (fun k => (f k : EReal)) = (c : EReal) := by
  refine ⟨_, (EReal.coe_toReal (ne_of_lt ?_) (ne_of_gt ?_)).symm⟩
  · exact Finset.fold_max_lt _ |>.2 ⟨bot_lt_top, fun k _ => EReal.coe_lt_top _⟩
  · exact Finset.lt_fold_max _ |>.2 (.inr ⟨0, Finset.mem_univ _, EReal.bot_lt_coe _⟩)

/-- A logit. -/
theorem logit_real {x : Fin 768 → ℝ} {w : Fin 768 → Fin 8192 → ℝ} {b : Fin 2} {p : Fin 2048}
    (hx : ∀ k, x0 (ix3 b p k) = (x k : EReal)) (hw : ∀ k v, x3 (ix2 k v) = (w k v : EReal)) (hb : ∀ j, x4 j = 0) (v : Fin 8192) :
    val_main_v5 (F := Ideal) x0 x3 x4 (ix3 b p v) = ((∑ k, x k * w k v : ℝ) : EReal) := by
  rw [val_main_v5_apply, val_main_v4_apply, val_main_v3_apply, hb, val_main_v2_apply, Ideal.addf_def]
  refine (add_zero _).trans ?_
  rw [coe_sum]
  refine Finset.sum_congr rfl fun k _ => ?_
  rw [EReal.coe_mul, ← hx, ← hw]
  congr 2 <;> · funext a; fin_cases a <;> rfl

variable {l : Fin 8192 → ℝ} {b : Fin 2} {p : Fin 2048}

/-- The number taken from a row's logits is some real. -/
theorem shift_real (hl : ∀ v, val_main_v5 (F := Ideal) x0 x3 x4 (ix3 b p v) = (l v : EReal)) :
    ∃ c : ℝ, val_main_call0_v2 (F := Ideal) x0 x3 x4 (ix2 b p) = (c : EReal) := by
  obtain ⟨c, hc⟩ := fold_max_real l
  refine ⟨c, ?_⟩
  rw [val_main_call0_v2_apply, val_main_call0_v1_apply, val_main_call0_cst_0_apply]
  have h0 : val_main_call0_v0 (F := Ideal) x0 x3 x4 (ix2 b p) = (c : EReal) := by
    unfold val_main_call0_v0
    generalize val_main_v5 (F := Ideal) x0 x3 x4 = y at hl ⊢
    pointwise
    rw [← hc]
    simp only [hl]
    rw [val_main_call0_cst_apply]
    exact congrArg (fun z => Finset.univ.fold max z _) Consts.ofBits_neg_inf
  rw [h0]
  show max (Ideal.ofBits .f32 0xFF800000#32) _ = _
  rw [Consts.ofBits_neg_inf]
  exact max_eq_right bot_le

/-- A logit less the number taken from its row. -/
theorem shifted_real (hl : ∀ v, val_main_v5 (F := Ideal) x0 x3 x4 (ix3 b p v) = (l v : EReal)) {c : ℝ}
    (hc : val_main_call0_v2 (F := Ideal) x0 x3 x4 (ix2 b p) = (c : EReal)) (v : Fin 8192) :
    val_main_call0_v5 (F := Ideal) x0 x3 x4 (ix3 b p v) = ((l v - c : ℝ) : EReal) := by
  have e : idx_main_call0_v3 (idx_main_call0_v4 (ix3 b p v)) = ix2 b p := by funext a; fin_cases a <;> rfl
  rw [val_main_call0_v5_apply, val_main_call0_v4_apply, val_main_call0_v3_apply, e, hc, hl]
  exact (EReal.coe_sub _ _).symm

/-- The logarithm of the row's sum of shifted exponentials. -/
theorem logsum_real (hl : ∀ v, val_main_v5 (F := Ideal) x0 x3 x4 (ix3 b p v) = (l v : EReal)) {c : ℝ}
    (hc : val_main_call0_v2 (F := Ideal) x0 x3 x4 (ix2 b p) = (c : EReal)) (v : Fin 8192) :
    val_main_call0_v10 (F := Ideal) x0 x3 x4 (ix3 b p v) = ((lse l - c : ℝ) : EReal) := by
  have e : idx_main_call0_v8 (idx_main_call0_v10 (ix3 b p v)) = ix2 b p := by funext a; fin_cases a <;> rfl
  have e' : ∀ k, idx_main_call0_v7 (ix2 b p) k = ix3 b p k := fun k => by funext a; fin_cases a <;> rfl
  rw [val_main_call0_v10_apply, val_main_call0_v9_apply, val_main_call0_v8_apply, e, val_main_call0_v7_apply, val_main_call0_cst_1_apply]
  have hs : ∑ k, val_main_call0_v6 (F := Ideal) x0 x3 x4 (idx_main_call0_v7 (ix2 b p) k) = ((∑ k, Real.exp (l k - c) : ℝ) : EReal) := by
    rw [coe_sum]
    refine Finset.sum_congr rfl fun k _ => ?_
    rw [val_main_call0_v6_apply, e', shifted_real hl hc]
    rfl
  rw [hs, ← lse_shift l c, ← log_coe_of_pos (sum_exp_pos fun k => l k - c)]
  rw [Ideal.hostUnary_log_def]
  refine congrArg Ideal.log ?_
  show Ideal.ofBits .f32 0x00000000#32 + _ = _
  rw [Ideal.ofBits_zero_f32]
  exact zero_add _

/-- An entry of the log-softmax. -/
theorem log_softmax_real (hl : ∀ v, val_main_v5 (F := Ideal) x0 x3 x4 (ix3 b p v) = (l v : EReal)) (v : Fin 8192) :
    val_main_v6 (F := Ideal) x0 x3 x4 (ix3 b p v) = ((l v - lse l : ℝ) : EReal) := by
  obtain ⟨c, hc⟩ := shift_real hl
  rw [val_main_v6_apply, shifted_real hl hc, logsum_real hl hc]
  refine (EReal.coe_sub _ _).symm.trans (congrArg _ ?_)
  ring

/-- An entry of the flattened log-softmax. -/
theorem log_probs_real {x : Fin 4096 → Fin 768 → ℝ} {w : Fin 768 → Fin 8192 → ℝ}
    (hx : ∀ R k, x0 (ix3 (batch R) (position R) k) = (x R k : EReal)) (hw : ∀ k v, x3 (ix2 k v) = (w k v : EReal)) (hb : ∀ j, x4 j = 0)
    (R : Fin 4096) (v : Fin 8192) :
    val_main_v10 (F := Ideal) x0 x3 x4 (ix2 R v) = ((logits x w R v - lse (logits x w R) : ℝ) : EReal) := by
  have e : idx_main_v10 (ix2 R v) = ix3 (batch R) (position R) v := by
    have hR := R.isLt
    have hv := v.isLt
    funext a
    fin_cases a <;> refine Fin.ext ?_
    · show (R.val * 8192 + v.val) / 16777216 = R.val / 2048
      omega
    · show (R.val * 8192 + v.val) / 8192 % 2048 = R.val % 2048
      omega
    · show (R.val * 8192 + v.val) % 8192 = v.val
      omega
  rw [val_main_v10_apply, e]
  exact log_softmax_real (fun v' => logit_real (x := x R) (hx R) hw hb v') v

end Cert.Proof.LossReference

end
-- ==== Proof.RefTarget.lean ====
/- The reference's smoothed target distribution: the scatter writes the confidence at the class that each row is scored
   against, and every other entry keeps the smoothing constant. -/
module

public import proofs.«01_k».proof.Proof.Args
public import proofs.«01_k».proof.Proof.Gen.ReferenceIdeal.Read
public import Idealize.ShloMosaic.Lib.Routing.OpsSet

@[expose] public section

set_option maxRecDepth 16384

noncomputable section

namespace Cert.Proof.LossReference

open Cert.ReferenceIdeal Cert.ReferenceIdeal.Gen Cert.ReferenceIdeal.Read
open Idealize.ShloMosaic
open scoped BigOperators

/-- The reference's scatter, by its short name. -/
abbrev dims : ScatterDims S4096x8192 S4096x2 S4096 := scatter_S4096x8192_S4096x2_S4096_n_01_01_1

/-- An update has no window: its window coordinates are zero. -/
theorem window_eq (k : Fin 4096) (q : Fin 2) : dims.window (ix1 k) q = 0 := by
  fin_cases q <;> rfl

/-- An update's start on an axis is its index word for that axis. -/
theorem start_eq (idx : IVec S4096x2 32) (k : Fin 4096) (q : Fin 2) : dims.start (ix1 k) idx q = (idx (ix2 k q)).toInt := by
  have e : ∀ q : Fin 2, dims.siIdx (ix1 k) ⟨dims.scatterDimsToOperandDims.idxOf q, List.idxOf_lt_length_iff.2 (by fin_cases q <;> decide)⟩ = ix2 k q := by
    intro q
    fin_cases q <;> (funext a; fin_cases a <;> rfl)
  unfold ScatterDims.start
  rw [dif_pos (by fin_cases q <;> decide), e]

/-- Update `k` lands where its two index words say. -/
theorem lands_iff (idx : IVec S4096x2 32) (k R : Fin 4096) (v : Fin 8192) :
    dims.resultIdx? (ix1 k) idx = some (ix2 R v) ↔ (idx (ix2 k 0)).toInt = R.val ∧ (idx (ix2 k 1)).toInt = v.val := by
  have h := Routing.resultIdx?_ix2 dims (ix1 k) idx R v
  rw [start_eq, start_eq, window_eq, window_eq] at h
  refine h.trans ?_
  simp

/-! ## The index words -/

/-- The word of a natural number below 8192, read signed. -/
theorem toInt_ofNat {n : ℕ} (h : n < 8192) : (BitVec.ofNat 32 n).toInt = n := by
  rw [BitVec.toInt_eq_toNat_cond, BitVec.toNat_ofNat, Nat.mod_eq_of_lt (by omega), if_pos (by omega)]

/-- The wrap of a negative index leaves the word of a number below 8192 as it is. -/
theorem wrap_ofNat {n : ℕ} (h : n < 8192) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

/-- The wrapped class word: the reference's -100, where the mask is zero, wraps to class 8092. -/
theorem wrap_class (mask target : BitVec 32) {n : ℕ} (h : n < 8192) (hc : classWord mask target = BitVec.ofNat 32 n) :
    Scalar.select (IntOp.cmpi .slt (Scalar.select (IntOp.cmpi .eq mask 0#32) 4294967196#32 target) 0#32)
      (IntOp.addi (Scalar.select (IntOp.cmpi .eq mask 0#32) 4294967196#32 target) 8192#32)
      (Scalar.select (IntOp.cmpi .eq mask 0#32) 4294967196#32 target) = BitVec.ofNat 32 n := by
  unfold classWord at hc
  rcases (by decide : ∀ z : BitVec 1, z = 0#1 ∨ z = 1#1) (IntOp.cmpi .eq mask 0#32) with hm | hm <;> rw [hm] at hc ⊢
  · have e : target = BitVec.ofNat 32 n := hc
    rw [e]
    exact wrap_ofNat h _
  · rw [← hc]
    show Scalar.select (IntOp.cmpi .slt 4294967196#32 0#32) (IntOp.addi 4294967196#32 8192#32) 4294967196#32 = 8092#32
    decide

variable {x1 x2 : (⟨S2x2048, .i32⟩ : BufTy).Contents (Elt Ideal)}

/-- The first index word of update `k` is `k`. -/
theorem row_word (k : Fin 4096) : val_main_v27 (F := Ideal) x1 x2 (ix2 k 0) = BitVec.ofNat 32 k.val := by
  have h : val_main_v27 (F := Ideal) x1 x2 (ix2 k 0) = val_main_v25 (F := Ideal) (ix2 k 0) := by
    unfold val_main_v27
    generalize val_main_v25 (F := Ideal) = y
    generalize val_main_v26 (F := Ideal) x1 x2 = z
    pointwise
  rw [h, val_main_v25_apply, val_main_v19_apply, val_main_v16_apply, val_main_v14_apply, val_main_v15_apply, val_main_c_4_apply]
  exact wrap_ofNat (lt_trans k.isLt (by decide)) _

/-- The second index word of update `k` is the class that row `k` is scored against. -/
theorem class_word {t : Fin 4096 → Fin 8192}
    (ht : ∀ R, classWord (x2 (ix2 (batch R) (position R))) (x1 (ix2 (batch R) (position R))) = BitVec.ofNat 32 (t R).val) (k : Fin 4096) :
    val_main_v27 (F := Ideal) x1 x2 (ix2 k 1) = BitVec.ofNat 32 (t k).val := by
  have h : val_main_v27 (F := Ideal) x1 x2 (ix2 k 1) = val_main_v26 (F := Ideal) x1 x2 (ix2 k 0) := by
    unfold val_main_v27
    generalize val_main_v25 (F := Ideal) = y
    generalize val_main_v26 (F := Ideal) x1 x2 = z
    pointwise
  have e : idx_main_v11 (idx_main_v26 (ix2 k 0)) = ix2 (batch k) (position k) := by funext a; fin_cases a <;> rfl
  rw [h, val_main_v26_apply, val_main_v24_apply, val_main_v21_apply, val_main_v23_apply, val_main_v11_apply, e, val_main_v9_apply,
    val_main_v8_apply]
  exact wrap_class _ _ (t k).isLt (ht k)

/-! ## The distribution -/

/-- The constant one. -/
theorem one_real : Ideal.ofBits .f32 0x3F800000#32 = ((1 : ℝ) : EReal) := by
  simp [Ideal.ofBits, Ideal.ieee, -EReal.coe_mul]; norm_num

/-- The smoothing weight, one over a hundred. -/
theorem hundredth_real (i : S_.Idx) : val_main_v0 (F := Ideal) i = ((1 / 100 : ℝ) : EReal) := by
  rw [val_main_v0_apply, val_main_cst_apply, val_main_cst_0_apply, Ideal.hostDivf_def]
  show Ideal.div (Ideal.ofBits .f32 0x3F800000#32) (Ideal.ofBits .f32 0x42C80000#32) = _
  rw [one_real, Consts.ofBits_100, Ideal.div_coe (by norm_num), ← EReal.coe_mul, one_mul]

/-- The smoothing constant: what every entry starts from. -/
theorem base_real (i : S4096x8192.Idx) : val_main_v13 (F := Ideal) i = (Consts.eps : EReal) := by
  rw [val_main_v13_apply, val_main_v12_apply, hundredth_real, val_main_cst_3_apply, Ideal.hostDivf_def]
  show Ideal.div _ (Ideal.ofBits .f32 0x45FFF000#32) = _
  rw [Consts.ofBits_8190, Ideal.div_coe (by norm_num), ← EReal.coe_mul]
  norm_num [Consts.eps]

/-- The confidence: what the scatter writes. -/
theorem update_real (i : S4096.Idx) : val_main_v28 (F := Ideal) i = (Consts.conf : EReal) := by
  rw [val_main_v28_apply, val_main_v1_apply, hundredth_real, val_main_cst_1_apply]
  show Ideal.ofBits .f32 0x3F800000#32 - _ = _
  rw [one_real, ← EReal.coe_sub]
  norm_num [Consts.conf]

/-- An entry of the smoothed target distribution. -/
theorem target_real {t : Fin 4096 → Fin 8192}
    (ht : ∀ R, classWord (x2 (ix2 (batch R) (position R))) (x1 (ix2 (batch R) (position R))) = BitVec.ofNat 32 (t R).val)
    (R : Fin 4096) (v : Fin 8192) : val_main_v29 (F := Ideal) x1 x2 (ix2 R v) = ((smooth (t R) v : ℝ) : EReal) := by
  have hl : ∀ k : Fin 4096, dims.resultIdx? (ix1 k) (val_main_v27 (F := Ideal) x1 x2) = some (ix2 R v) ↔ k = R ∧ t k = v := by
    intro k
    rw [lands_iff, row_word, class_word ht, toInt_ofNat (by have := k.isLt; omega), toInt_ofNat (t k).isLt]
    constructor
    · rintro ⟨h1, h2⟩
      exact ⟨Fin.ext (by exact_mod_cast h1), Fin.ext (by exact_mod_cast h2)⟩
    · rintro ⟨rfl, rfl⟩
      exact ⟨rfl, rfl⟩
  unfold val_main_v29 smooth
  by_cases h : v = t R
  · rw [if_pos h]
    exact Routing.scatter_set_hit dims _ _ _ _ _ (fun k _ => update_real k) (ix1 R) ((hl R).2 ⟨rfl, h.symm⟩)
  · rw [if_neg h]
    refine (Routing.scatter_set_miss dims _ _ _ _ fun k hk => ?_).trans (base_real _)
    obtain ⟨k', rfl⟩ : ∃ k' : Fin 4096, k = ix1 k' := ⟨k 0, by funext a; fin_cases a; rfl⟩
    obtain ⟨rfl, rfl⟩ := (hl k').1 hk
    exact h rfl

end Cert.Proof.LossReference

end
-- ==== Proof.RefValue.lean ====
/- The reference's result over the real numbers: the loss of all the rows. -/
module

public import proofs.«01_k».proof.Proof.RefLogits
public import proofs.«01_k».proof.Proof.RefTarget

@[expose] public section

set_option maxRecDepth 16384

noncomputable section

namespace Cert.Proof.LossReference

open Cert.ReferenceIdeal Cert.ReferenceIdeal.Gen Cert.ReferenceIdeal.Read
open Idealize.ShloMosaic
open scoped BigOperators

variable {x0 : (⟨S2x2048x768, .f32⟩ : BufTy).Contents (Elt Ideal)} {x1 x2 : (⟨S2x2048, .i32⟩ : BufTy).Contents (Elt Ideal)}
  {x3 : (⟨S768x8192, .f32⟩ : BufTy).Contents (Elt Ideal)} {x4 : (⟨S8192, .f32⟩ : BufTy).Contents (Elt Ideal)}
  {x : Fin 4096 → Fin 768 → ℝ} {w : Fin 768 → Fin 8192 → ℝ} {t : Fin 4096 → Fin 8192}

/-- A smoothed target is positive. -/
theorem smooth_pos (t v : Fin 8192) : 0 < smooth t v := by
  unfold smooth
  split
  · exact Consts.conf_pos
  · exact Consts.eps_pos

/-- No smoothed target is -100, so that the reference replaces none of them by zero. -/
theorem kept_target (ht : ∀ R, classWord (x2 (ix2 (batch R) (position R))) (x1 (ix2 (batch R) (position R))) = BitVec.ofNat 32 (t R).val)
    (R : Fin 4096) (v : Fin 8192) : val_main_v32 (F := Ideal) x1 x2 (ix2 R v) = ((smooth (t R) v : ℝ) : EReal) := by
  have hne : ((smooth (t R) v : ℝ) : EReal) ≠ ((-100 : ℝ) : EReal) := fun h => by
    have h' := EReal.coe_eq_coe_iff.1 h
    have := smooth_pos (t R) v
    linarith
  have hm : val_main_v31 (F := Ideal) x1 x2 (ix2 R v) = 0#1 := by
    rw [val_main_v31_apply, target_real ht, val_main_v30_apply, val_main_cst_8_apply]
    show Ideal.cmp .oeq _ (Ideal.ofBits .f32 0xC2C80000#32) = _
    rw [Consts.ofBits_neg_100]
    simp only [Ideal.cmp]
    rw [decide_eq_false hne]
    rfl
  rw [val_main_v32_apply, hm, target_real ht]
  rfl

/-- One term of the reference's sum. -/
theorem term_real (hr : RealArgs x0 x1 x2 x3 x w t) (hb : ∀ j, x4 j = 0) (R : Fin 4096) (v : Fin 8192) :
    val_main_v35 (F := Ideal) x0 x1 x2 x3 x4 (ix2 R v)
      = ((smooth (t R) v * (Real.log (smooth (t R) v) - (logits x w R v - lse (logits x w R))) : ℝ) : EReal) := by
  rw [val_main_v35_apply, val_main_v34_apply, val_main_v33_apply, kept_target hr.classes, log_probs_real hr.rows hr.weights hb,
    Ideal.hostUnary_log_def, log_coe_of_pos (smooth_pos _ _)]
  rw [Ideal.subf_def, Ideal.mulf_def, ← EReal.coe_sub, ← EReal.coe_mul]

/-- The reference's result is the loss of all the rows. -/
theorem result_real (hr : RealArgs x0 x1 x2 x3 x w t) (hb : ∀ j, x4 j = 0) (i : S_.Idx) :
    val_main_v36 (F := Ideal) x0 x1 x2 x3 x4 i = ((total x w t : ℝ) : EReal) := by
  rw [val_main_v36_apply, val_main_cst_10_apply]
  show Ideal.ofBits .f32 0x00000000#32 + _ = _
  rw [Ideal.ofBits_zero_f32, total, coe_sum]
  refine (zero_add _).trans ((ValueIdx.sum_idx2 _).trans (Finset.sum_congr rfl fun R _ => ?_))
  rw [rowLoss, coe_sum]
  exact Finset.sum_congr rfl fun v _ => term_real hr hb R v

end Cert.Proof.LossReference

end
-- ==== Proof.Pre.lean ====
/- What the precondition says of the arguments: rows and weights are finite, the targets of the unmasked
   rows are classes, and the bias is zero. From it, the real numbers and classes that both programs are read at. -/
module

public import proofs.«01_k».proof.Proof.Args
public import proofs.«01_k».proof.Proof.Gen.Pre_finite_inputs
public import Idealize.ShloMosaic.Lib.ReduceAll
public import Idealize.ShloMosaic.Lib.IdealHost

@[expose] public section

set_option maxRecDepth 16384

noncomputable section

namespace Cert.Proof

open Cert.Pre_finite_inputs Cert.Pre_finite_inputs.Gen
open Idealize.ShloMosaic

variable {a0 : FVec Ideal S2x2048x768 .f32} {a1 a2 : IVec S2x2048 32} {a3 : FVec Ideal S768x8192 .f32} {a4 : FVec Ideal S8192 .f32}

/-- There is one index of rank zero. -/
theorem scalar_subsingleton : Subsingleton S_.Idx := ⟨fun _ _ => funext fun a => a.elim0⟩

/-- A value that compares below plus infinity in magnitude is a real. -/
theorem coe_of_finite {e : EReal} (h : FloatOps.cmpf (F := Ideal) (φ := .f32) .olt (max e (-e)) (Ideal.ofBits .f32 0x7F800000#32) = 1#1) :
    ((e.toReal : ℝ) : EReal) = e := by
  refine coe_of_abs_lt_top ?_
  rw [Consts.ofBits_inf] at h
  by_contra hn
  have h0 : Ideal.cmp .olt (max e (-e)) ⊤ = 0#1 := by simp only [Ideal.cmp]; simp [hn]
  exact absurd (h0.symm.trans h) (by decide)

/-- The class that a row is scored against is one of the 8192 when its mask is zero or its target is a class. -/
theorem classWord_lt {mask target : BitVec 32}
    (h : IntOp.ori (IntOp.cmpi .eq mask 0#32) (IntOp.andi (IntOp.cmpi .sge target 0#32) (IntOp.cmpi .slt target 8192#32)) = 1#1) :
    (classWord mask target).toNat < 8192 := by
  unfold classWord
  rcases (by decide : ∀ z : BitVec 1, z = 0#1 ∨ z = 1#1) (IntOp.cmpi .eq mask 0#32) with hm | hm <;> rw [hm] at h ⊢
  · obtain ⟨hl, hu⟩ := IntOp.andi_eq_one.1 ((IntOp.ori_eq_one.1 h).resolve_left (by decide))
    have h0 := IntOp.cmpi_sge.1 hl
    have h1 := IntOp.cmpi_slt.1 hu
    rw [show (0#32).toInt = 0 by decide] at h0
    rw [show (8192#32).toInt = 8192 by decide] at h1
    show target.toNat < 8192
    rw [BitVec.toInt_eq_toNat_cond] at h0 h1
    have := target.isLt
    split at h0 <;> omega
  · show (8092#32).toNat < 8192
    decide

/-- The precondition, element by element. -/
theorem pre_elements (h : Cert.Pre_finite_inputs.fn (F := Ideal) a0 a1 a2 a3 a4 = fun _ => 1#1) :
    (∀ i, (((a0 i).toReal : ℝ) : EReal) = a0 i) ∧ (∀ i, (((a3 i).toReal : ℝ) : EReal) = a3 i) ∧ (∀ i, (classWord (a2 i) (a1 i)).toNat < 8192) ∧ ∀ i, a4 i = 0 := by
  haveI := scalar_subsingleton
  have h' := congrFun h (fun a => a.elim0)
  unfold Cert.Pre_finite_inputs.fn fn_part1 at h'
  obtain ⟨h012, hb⟩ := IntOp.andi_eq_one.1 h'
  obtain ⟨h01, ht⟩ := IntOp.andi_eq_one.1 h012
  obtain ⟨hx, hw⟩ := IntOp.andi_eq_one.1 h01
  refine ⟨fun i => coe_of_finite ?_, fun i => coe_of_finite ?_, fun i => ?_, fun i => ?_⟩
  · exact Host.reduce_andi_all _ _ _ _ _ hx i
  · exact Host.reduce_andi_all _ _ _ _ _ hw i
  · exact classWord_lt (Host.reduce_andi_all _ _ _ _ _ ht i)
  · have h0 : Ideal.cmp .oeq (a4 i) (Ideal.ofBits .f32 0x00000000#32) = 1#1 := Host.reduce_andi_all _ _ _ _ _ hb i
    rw [Ideal.ofBits_zero_f32] at h0
    by_contra hn
    have h1 : Ideal.cmp .oeq (a4 i) 0 = 0#1 := by simp only [Ideal.cmp]; simp [hn]
    exact absurd (h1.symm.trans h0) (by decide)

/-- The arguments that the precondition admits are real. -/
theorem pre_real (h : Cert.Pre_finite_inputs.fn (F := Ideal) a0 a1 a2 a3 a4 = fun _ => 1#1) :
    (∃ x w t, RealArgs a0 a1 a2 a3 x w t) ∧ ∀ j, a4 j = 0 := by
  obtain ⟨hx, hw, ht, hb⟩ := pre_elements h
  refine ⟨⟨fun R k => (a0 (ix3 (batch R) (position R) k)).toReal, fun k v => (a3 (ix2 k v)).toReal,
    fun R => ⟨(classWord (a2 (ix2 (batch R) (position R))) (a1 (ix2 (batch R) (position R)))).toNat, ht _⟩, ?_, ?_, ?_⟩, hb⟩
  · exact fun R k => (hx _).symm
  · exact fun k v => (hw _).symm
  · exact fun R => by rw [BitVec.ofNat_toNat, BitVec.setWidth_eq]

end Cert.Proof

end
-- ==== Proof.Algebraic.lean ====
/- The value claim: under the precondition the kernel and the reference end with the same loss. -/
module

public import proofs.«01_k».proof.Defs
public import proofs.«01_k».proof.Proof.KernelValue
public import proofs.«01_k».proof.Proof.RefValue
public import proofs.«01_k».proof.Proof.Pre

@[expose] public section

noncomputable section

namespace Cert.Proof

open Idealize.ShloMosaic Idealize.SL.Sem

/-- Over the reals the kernel and the reference compute the same loss, the total of the rows' losses. -/
theorem algebraic : Cert.algebraic_KernelIdeal_ReferenceIdeal_pre_finite_inputs := by
  intro m g m' g' hpre hagree
  refine ⟨fun c _ => LossKernel.loss m c, LossKernel.run m g, (θ_run Cert.ReferenceIdeal.defs _ _).mono (fun r h c => ⟨?_, (h c).2⟩)
    (Cert.ReferenceIdeal.Value.run (F := Ideal) m' g')⟩
  obtain ⟨⟨x, w, t, hr⟩, hb⟩ := pre_real (hpre c)
  obtain ⟨e0, e1, e2, e3, e4⟩ := hagree c
  refine (h c).1.trans ?_
  rw [Cert.ReferenceIdeal.Read.val_main_v36_eq, e0, e1, e2, e3, e4]
  funext i
  exact (LossReference.result_real hr hb i).trans (LossKernel.loss_real m c hr).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_finite_inputs.Gen.facts,
    frame_kernel, frame_ideal, frame_ideal_pre, frame_reference, frame_reference_pre, preserves, algebraic⟩

end Cert.Proof

end
